-- ==== Defs.lean ====
def Pre_Kernel [hPre_t_in_table : Cert.Pre_t_in_table.Facts] (m : (ℓ : Loc Cert.Kernel.nD Cert.Kernel.τ Cert.Kernel.sig) → Buf (Elt Bits) ℓ) : Prop :=
  ∀ c : Dev Cert.Kernel.nD,
    (Cert.Pre_t_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_t_in_table : Cert.Pre_t_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_t_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_t_in_table [hPre_t_in_table : Cert.Pre_t_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_t_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_t_in_table : Cert.Pre_t_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_t_in_table : Cert.Pre_t_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_t_in_table [hReferenceIdeal : Cert.ReferenceIdeal.Facts] [hPre_t_in_table : Cert.Pre_t_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_t_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_t_in_table : Cert.Pre_t_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_t_in_table : Cert.Pre_t_in_table.Facts),
    quiescent_Kernel (hKernel := hKernel) (hPre_t_in_table := hPre_t_in_table)
    ∧ quiescent_KernelIdeal (hKernelIdeal := hKernelIdeal) (hPre_t_in_table := hPre_t_in_table)
    ∧ quiescent_ReferenceIdeal (hReferenceIdeal := hReferenceIdeal)
    ∧ quiescent_ReferenceIdeal_pre_t_in_table (hReferenceIdeal := hReferenceIdeal) (hPre_t_in_table := hPre_t_in_table)
    ∧ preserves_Kernel_KernelIdeal
    ∧ algebraic_KernelIdeal_ReferenceIdeal (hKernelIdeal := hKernelIdeal) (hReferenceIdeal := hReferenceIdeal) (hPre_t_in_table := hPre_t_in_table)
-- ==== Pre_t_in_table.lean ====
abbrev S2x96x224x224 : Shape := ⟨4, ![2, 96, 224, 224]⟩
abbrev S_ : Shape := ⟨0, ![]⟩
abbrev S1000x256 : Shape := ⟨2, ![1000, 256]⟩

class Facts : Prop where

variable [Facts]

def fn {F : FTy → Type} [FloatOps F] (main_arg0 : FVec F S2x96x224x224 .f32) (main_arg1 : IVec S_ 32) (main_arg2 : FVec F S1000x256 .f32) : IVec S_ 1 :=
  let main_c : IVec S_ 32 := constantI S_ 32 0#32
  let main_v0 : IVec S_ 1 := cmpi .sge main_arg1 main_c
  let main_c_0 : IVec S_ 32 := constantI S_ 32 1000#32
  let main_v1 : IVec S_ 1 := cmpi .slt main_arg1 main_c_0
  let main_v2 : IVec S_ 1 := andi main_v0 main_v1
  main_v2
-- ==== Kernel.lean ====
abbrev S2x96x224x224 : Shape := ⟨4, ![2, 96, 224, 224]⟩
abbrev S_ : Shape := ⟨0, ![]⟩
abbrev S1000x256 : Shape := ⟨2, ![1000, 256]⟩
abbrev S1 : Shape := ⟨1, ![1]⟩
abbrev S1000x256x1 : Shape := ⟨3, ![1000, 256, 1]⟩
abbrev S512x50176 : Shape := ⟨2, ![512, 50176]⟩
abbrev S1x256x1 : Shape := ⟨3, ![1, 256, 1]⟩
abbrev S256x12544 : Shape := ⟨2, ![256, 12544]⟩
abbrev S256x1 : Shape := ⟨2, ![256, 1]⟩
abbrev S2x256x224x224 : Shape := ⟨4, ![2, 256, 224, 224]⟩

abbrev nBuf : Space → Nat
  | .hbm => 6
  | .vmem => 3
  | .smem => 1
  | _ => 0

abbrev bufTy : (tb : Table) → Fin (tcTables nBuf tb) → BufTy
  | .hbm, ⟨0, _⟩ => ⟨S2x96x224x224, .f32⟩
  | .hbm, ⟨1, _⟩ => ⟨S_, .i32⟩
  | .hbm, ⟨2, _⟩ => ⟨S1000x256, .f32⟩
  | .hbm, ⟨3, _⟩ => ⟨S1000x256x1, .f32⟩
  | .hbm, ⟨4, _⟩ => ⟨S512x50176, .f32⟩
  | .hbm, ⟨5, _⟩ => ⟨S2x256x224x224, .f32⟩
  | .local _ .vmem, ⟨0, _⟩ => ⟨S1x256x1, .f32⟩
  | .local _ .vmem, ⟨1, _⟩ => ⟨S256x12544, .f32⟩
  | .local _ .vmem, ⟨2, _⟩ => ⟨S256x12544, .f32⟩
  | .local _ .smem, ⟨0, _⟩ => ⟨S1, .i32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x256x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S2x96x224x224 : Shape := ⟨4, ![2, 96, 224, 224]⟩
abbrev S_ : Shape := ⟨0, ![]⟩
abbrev S1000x256 : Shape := ⟨2, ![1000, 256]⟩
abbrev S1x256 : Shape := ⟨2, ![1, 256]⟩
abbrev S256 : Shape := ⟨1, ![256]⟩
abbrev S1x256x1x1 : Shape := ⟨4, ![1, 256, 1, 1]⟩
abbrev S2x256x224x224 : Shape := ⟨4, ![2, 256, 224, 224]⟩

abbrev nBuf : Space → Nat
  | .hbm => 20
  | .vmem => 0
  | .smem => 0
  | _ => 0

abbrev bufTy : (tb : Table) → Fin (tcTables nBuf tb) → BufTy
  | .hbm, ⟨0, _⟩ => ⟨S2x96x224x224, .f32⟩
  | .hbm, ⟨1, _⟩ => ⟨S_, .i32⟩
  | .hbm, ⟨2, _⟩ => ⟨S1000x256, .f32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1x256, .f32⟩
  | .hbm, ⟨17, _⟩ => ⟨S256, .f32⟩
  | .hbm, ⟨18, _⟩ => ⟨S1x256x1x1, .f32⟩
  | .hbm, ⟨19, _⟩ => ⟨S2x256x224x224, .f32⟩
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_c_2 : Ref sig .tc := ⟨.hbm, 9, rfl⟩
abbrev main_v3 : Ref sig .tc := ⟨.hbm, 10, rfl⟩
abbrev main_c_3 : Ref sig .tc := ⟨.hbm, 11, rfl⟩
abbrev main_c_4 : Ref sig .tc := ⟨.hbm, 12, rfl⟩
abbrev main_v4 : Ref sig .tc := ⟨.hbm, 13, rfl⟩
abbrev main_c_5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Proof.TimeStep.lean ====
/- What the precondition says of the time step: it is a row of the embedding table. -/
module

public import proofs.«01_k».proof.Proof.Gen.Pre_t_in_table

@[expose] public section

namespace Cert.TimeStep

open Idealize.ShloMosaic Cert.Pre_t_in_table

variable {F : FTy → Type} [FloatOps F]

/-- A 32-bit word that is at least 0 and below 1000, read signed, is below 1000 read unsigned. -/
theorem word_lt {w : BitVec 32} (h0 : (0#32).sle w = true) (h1 : w.slt 1000#32 = true) : w.toNat < 1000 := by
  have hi : 0 ≤ w.toInt := by
    have := h0
    rw [BitVec.sle_eq_decide, decide_eq_true_eq] at this
    simpa using this
  have hs : w.toInt < 1000 := by
    have := h1
    rw [BitVec.slt_eq_decide, decide_eq_true_eq] at this
    simpa using this
  rw [BitVec.toInt_eq_toNat_cond] at hi hs
  have hw := w.isLt
  split at hs <;> omega

/-- The conjunction of two one-bit truth values is one exactly where both are true. -/
theorem both_of_andi {a b : Bool} (h : IntOp.andi (BitVec.ofBool a) (BitVec.ofBool b) = 1#1) : a = true ∧ b = true := by
  revert h; cases a <;> cases b <;> decide

/-- THE PRECONDITION, READ: where it holds, the time step is below 1000, the number of rows of the table. -/
theorem lt_of_pre (x : FVec F S2x96x224x224 .f32) (t : IVec S_ 32) (e : FVec F S1000x256 .f32)
    (h : Cert.Pre_t_in_table.fn x t e = fun _ => 1#1) (j : S_.Idx) : (t j).toNat < 1000 := by
  have e := congrFun h j
  simp only [Cert.Pre_t_in_table.fn, andi, cmpi, constantI, IntOp.cmpi] at e
  exact word_lt (both_of_andi e).1 (both_of_andi e).2

end Cert.TimeStep
-- ==== Proof.Broadcast.lean ====
/- The mathematics of the problem: a row of a table, repeated along the channel axis of an image. `image` is the result;
   `slab` is the same values with the batch and channel axes merged and the two image axes merged, which is how the
   kernel lays them out. Unfolding the merged axes turns one into the other. -/
module

public import Idealize.ShloMosaic.Lib.Pipeline.Value
public import Idealize.ShloMosaic.Lib.ValueIdxCore

@[expose] public section

noncomputable section

namespace Cert.Broadcast

open Idealize.ShloMosaic

/-- The embedding table: 1000 rows of 256. -/
abbrev Table : Shape := ⟨2, ![1000, 256]⟩
/-- The result: batch, channel, height, width. -/
abbrev Image : Shape := ⟨4, ![2, 256, 224, 224]⟩
/-- The kernel's layout of the result: batch and channel merged, height and width merged. -/
abbrev Slab : Shape := ⟨2, ![512, 50176]⟩

variable {α : Type}

/-- The row of the table a word names: the word itself, where it is below 1000. -/
def row (w : BitVec 32) : Fin 1000 := ⟨w.toNat % 1000, Nat.mod_lt _ (by decide)⟩

theorem row_val {w : BitVec 32} (h : w.toNat < 1000) : (row w : Nat) = w.toNat := Nat.mod_eq_of_lt h

/-- Entry `k` of the row of the table `e` that the word `w` names. -/
def entry (w : BitVec 32) (e : Table.Idx → α) (k : Fin 256) : α := e (ValueIdx.ix2 (row w) k)

/-- THE RESULT: at channel `k`, entry `k` of the row, whatever the batch, the height and the width. -/
def image (w : BitVec 32) (e : Table.Idx → α) : Image.Idx → α := fun i => entry w e (i 1)

/-- The same in the kernel's layout: row `i` of the slab is channel `i mod 256`. -/
def slab (w : BitVec 32) (e : Table.Idx → α) : Slab.Idx → α :=
  fun i => entry w e ⟨(i 0 : Nat) % 256, Nat.mod_lt _ (by decide)⟩

/-- The slab with its axes unfolded is the image: batch `b`, channel `k` lie in row `256 b + k` of the slab, and `k` is
    that row's number modulo 256. -/
theorem shapeCast_slab (w : BitVec 32) (e : Table.Idx → α) (h : Slab.ShapeCasts Image) :
    shapeCast Image (slab w e) h = image w e := by
  funext j
  have h0 : (j 0 : Nat) < 2 := (j 0).isLt
  have h1 : (j 1 : Nat) < 256 := (j 1).isLt
  have h2 : (j 2 : Nat) < 224 := (j 2).isLt
  have h3 : (j 3 : Nat) < 224 := (j 3).isLt
  have hr : (j 0 : Nat) * 256 + (j 1 : Nat) < 512 := by omega
  have hc : (j 2 : Nat) * 224 + (j 3 : Nat) < 50176 := by omega
  rw [shapeCast_apply (slab w e) h j (ValueIdx.ix2 ⟨_, hr⟩ ⟨_, hc⟩) (by
    rw [Shape.rowMajor_val_two, Shape.rowMajor_val_four]
    show ((j 0 : Nat) * 256 + (j 1 : Nat)) * 50176 + ((j 2 : Nat) * 224 + (j 3 : Nat))
      = (((j 0 : Nat) * 256 + (j 1 : Nat)) * 224 + (j 2 : Nat)) * 224 + (j 3 : Nat)
    omega)]
  show entry w e _ = entry w e _
  congr 1
  apply Fin.ext
  show ((j 0 : Nat) * 256 + (j 1 : Nat)) % 256 = (j 1 : Nat)
  omega

end Cert.Broadcast
-- ==== Proof.TableKernelIdeal.lean ====
/- The time step as `KernelIdeal`'s launch finds it: the one word of the prefetched table, which names the block its input
   window fetches. Where the time step is a row of the embedding table that block lies inside the table. -/
module

public import proofs.«01_k».proof.Proof.Gen.KernelIdeal.Frame
public import Idealize.ShloMosaic.Lib.Pointwise.ShapeOpsCore

@[expose] public section

noncomputable section

namespace Cert.KernelIdeal.Table

open Idealize.ShloMosaic Idealize.ShloMosaic.TcCoe Cert.KernelIdeal Cert.KernelIdeal.Gen

variable {F : FTy → Type} [FloatOps F]
variable (m : (ℓ : Loc nD τ sig) → Buf (Elt F) ℓ)

/-- The time step: the one word of the second argument. -/
def step : BitVec 32 := m (((0 : Dev nD) : Thread nD τ).loc main_arg1) fun a => a.elim0

/-- Every word of the argument is the time step: the argument has one element. -/
theorem arg1_apply (j : S_.Idx) : m (((0 : Dev nD) : Thread nD τ).loc main_arg1) j = step m :=
  congrArg _ (funext fun a => a.elim0)

/-- The table at the launch is the time step, at its one place. -/
theorem tbl_apply (x : S1.Idx) : tbl m 0 x = step m := by
  have e : V m 0 main_v0 = shapeCast S1 (m (((0 : Dev nD) : Thread nD τ).loc main_arg1)) shapeCasts_S_S1 := by
    show StableHlo.after hostOps0 (fun b => m ((0 : Dev nD), b)) (Proc.devRef .tc main_v0) = _
    after_results
    rfl
  have e' : tbl m 0 x = shapeCast S1 (m (((0 : Dev nD) : Thread nD τ).loc main_arg1)) shapeCasts_S_S1 x := congrFun e x
  rw [e']
  exact arg1_apply m _

/-- The block the input window fetches: row `step` of the embedding table, whole, at every grid point. -/
theorem index_eq (i : grid0.Coords) : cc0_transform_0 inb_S1_S1_0 numel1_S1 (tbl m) i = ![(step m).toNat, 0, 0] := by
  have e : (tbl m).at 0 (Rect.unit (s := S1) ![0] S1.size inb_S1_S1_0) numel1_S1 = step m := tbl_apply m _
  unfold cc0_transform_0
  dsimp only
  rw [e]
  rfl

/-- SO THE LAUNCH IS WELL FORMED where the time step is below 1000: the block lies inside the embedding table. -/
theorem ok (h : (step m).toNat < 1000) : Ok (F := F) m := fun i => by
  refine ⟨fun a => ?_, .inl rfl⟩
  rw [index_eq]
  match a with
  | ⟨0, _⟩ => show ((step m).toNat + 1) * 1 ≤ 1000; omega
  | ⟨1, _⟩ => show (0 + 1) * 256 ≤ 256; omega
  | ⟨2, _⟩ => show (0 + 1) * 1 ≤ 1; omega

end Cert.KernelIdeal.Table
-- ==== Proof.BlockKernelIdeal.lean ====
/- What one grid point of `KernelIdeal` writes back: its block of the slab `Cert.Broadcast.slab`, and so what the whole
   output array holds after the run, the blocks tiling it. -/
module

public import proofs.«01_k».proof.Proof.Broadcast
public import proofs.«01_k».proof.Proof.TableKernelIdeal

@[expose] public section

noncomputable section

namespace Cert.KernelIdeal.Block

open Idealize.ShloMosaic Idealize.ShloMosaic.TcCoe Idealize.ShloMosaic.Tactic
open Cert.KernelIdeal Cert.KernelIdeal.Gen Cert.Broadcast

variable {F : FTy → Type} [FloatOps F]
variable (m : (ℓ : Loc nD τ sig) → Buf (Elt F) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The body's value: row `k` of the block is entry `k` of the fetched column, repeated. -/
theorem pay_apply (x : Vec F S1x256x1 .f32) (y : S256x12544.Idx) (k : Fin 256) (hk : (y 0 : Nat) = k) :
    k0_pay1 x y = x (ValueIdx.ix3 (0 : Fin 1) k (0 : Fin 1)) := by
  unfold k0_pay1
  rw [shapeCast_self, broadcastTo_apply _ _ y (ValueIdx.ix2 k (0 : Fin 1)) (fun a => by
    match a with
    | ⟨0, _⟩ => exact hk.symm
    | ⟨1, _⟩ => rfl)]
  exact shapeCast_apply x _ _ _ (by
    rw [Shape.rowMajor_val_three, Shape.rowMajor_val_two]
    show ((0 * 256 + (k : Nat)) * 1 + 0) = (k : Nat) * 1 + 0
    omega)

variable (hO : Ok (F := F) m)

/-- The column point `t` fetches. -/
def column (c : Dev nD) (t : Fin (cfgM m hO).N) : Vec F S1x256x1 .f32 := iblk m hO c 0 t

/-- The block point `t` leaves in the output's buffer is the body's value at the fetched column. -/
theorem outs_eq (c : Dev nD) (t : Fin (cfgM m hO).N) : outsAt0 m hO c t = k0_pay1 (column m hO c t) := by
  unfold outsAt0 out0_A_1
  rw [View.read_writes_eq_canon _ _ _ (cover0_A_1 c (grid0.coords t) (ms0_0 m hO t) (hs0_0 m hO t) (ms0_1 m hO t)
    (hs0_1 m hO t) (iblk m hO c 0 t) (tbl m 0))]
  unfold kernelRun0_A
  dsimp only
  sl_unfold_words
  rw [View.canon_unit_zero zeros2]
  refine congrArg k0_pay1 ?_
  rw [View.readAt_eq_ld]
  exact (View.ld_unit_zero zeros3 _ _).trans ((hs0_0 m hO t).read_unread _)

/-- The embedding table as the launch finds it: a unit axis added at the end. -/
theorem table_eq (c : Dev nD) :
    V m c main_v1 = shapeCast S1000x256x1 (m ((c : Thread nD τ).loc main_arg2)) shapeCasts_S1000x256_S1000x256x1 := by
  show StableHlo.after hostOps0 (fun b => m (c, b)) (Proc.devRef .tc main_v1) = _
  after_results
  rfl

/-- Entry `k` of the row `r` of that table, addressed with the unit axis. -/
theorem table_apply (c : Dev nD) (j : S1000x256x1.Idx) (r : Fin 1000) (k : Fin 256)
    (h0 : (j 0 : Nat) = r) (h1 : (j 1 : Nat) = k) :
    V m c main_v1 j = m ((c : Thread nD τ).loc main_arg2) (ValueIdx.ix2 r k) := by
  refine (congrFun (table_eq m c) j).trans (shapeCast_apply _ _ _ _ ?_)
  refine (Shape.rowMajor_val_two (d := ![1000, 256]) (ValueIdx.ix2 r k)).trans (Eq.trans ?_ (Shape.rowMajor_val_three j).symm)
  show (r : Nat) * 256 + (k : Nat) = ((j 0 : Nat) * 256 + (j 1 : Nat)) * 1 + (j 2 : Nat)
  have h2 : (j 2 : Nat) < 1 := (j 2).isLt
  omega

/-- The fetched column, at every point, is the row of the embedding table the time step names. -/
theorem column_apply (h : (Table.step m).toNat < 1000) (c : Dev nD) (t : Fin (cfgM m hO).N) (k : Fin 256) :
    column m hO c t (ValueIdx.ix3 (0 : Fin 1) k (0 : Fin 1))
      = entry (Table.step m) (m ((c : Thread nD τ).loc main_arg2)) k := by
  have hi : ((cfgM m hO).win 0).index t = ![(Table.step m).toNat, 0, 0] := Table.index_eq m (grid0.coords t)
  refine table_apply m c ((((cfgM m hO).win 0).rect t).emb (ValueIdx.ix3 (0 : Fin 1) k (0 : Fin 1)))
    (row (Table.step m)) k ?_ ?_
  · refine (Pipeline.Window.rect_emb_val ((cfgM m hO).win 0) t _ (0 : Fin 3)).trans ?_
    refine (congrArg (· * 1 + 0) (congrFun hi (0 : Fin 3))).trans ?_
    rw [row_val h]
    show (Table.step m).toNat * 1 + 0 = (Table.step m).toNat
    omega
  · refine (Pipeline.Window.rect_emb_val ((cfgM m hO).win 0) t _ (1 : Fin 3)).trans ?_
    refine (congrArg (· * 256 + (k : Nat)) (congrFun hi (1 : Fin 3))).trans ?_
    show 0 * 256 + (k : Nat) = (k : Nat)
    omega

/-- WHAT ONE POINT WRITES BACK is its block of the slab: the block's rows are all the channels, in order. -/
theorem flushed_eq (h : (Table.step m).toNat < 1000) (c : Dev nD) (t : Fin (cfgM m hO).N) :
    (dats m hO 0 c).flushed 1 t = (((cfgM m hO).win 1).blk t).view.read (Elt F)
      (slab (Table.step m) (m ((c : Thread nD τ).loc main_arg2))) := by
  show ((cfgM m hO).win 1).cut (grid0.coords t) ((dats m hO 0 c).after 1 t) = _
  rw [after0_1, outs_eq]
  have key : ∀ y : S256x12544.Idx, k0_pay1 (column m hO c t) y
      = slab (Table.step m) (m ((c : Thread nD τ).loc main_arg2)) ((((cfgM m hO).win 1).rect t).emb y) := fun y => by
    have h0 : (y 0 : Nat) < 256 := (y 0).isLt
    refine ((pay_apply _ y ⟨(y 0 : Nat), h0⟩ rfl).trans (column_apply m hO h c t _)).trans
      (congrArg (entry _ _) (Fin.ext ?_))
    refine Eq.trans ?_ (congrArg (· % 256) (Pipeline.Window.rect_emb_val ((cfgM m hO).win 1) t y (0 : Fin 2))).symm
    show (y 0 : Nat) = (((cfgM m hO).win 1).index t (0 : Fin 2) * 256 + (y 0 : Nat)) % 256
    omega
  exact funext key

/-- An index of the output array is in point `t`'s block where its row and column are in the block's. -/
theorem mem_blk (t : Fin (cfgM m hO).N) (i : S512x50176.Idx) :
    i ∈ (((cfgM m hO).win 1).blk t).view.set ↔
      (t.val / 4 * 256 ≤ (i 0 : Nat) ∧ (i 0 : Nat) < t.val / 4 * 256 + 256)
        ∧ t.val % 4 * 12544 ≤ (i 1 : Nat) ∧ (i 1 : Nat) < t.val % 4 * 12544 + 12544 := by
  refine (iff_of_eq (congrArg (i ∈ ·) (View.set_slice_whole main_v2 (((cfgM m hO).win 1).rect t)))).trans ?_
  refine Rect.mem_set_unit.trans ?_
  have e : ∀ t : Fin grid0.N, cc0_transform_1 (grid0.coords t) 0 = t.val / 4 ∧ cc0_transform_1 (grid0.coords t) 1 = t.val % 4 := by
    decide +kernel
  have e0 : ((cfgM m hO).win 1).index t (0 : Fin 2) = t.val / 4 := (e t).1
  have e1 : ((cfgM m hO).win 1).index t (1 : Fin 2) = t.val % 4 := (e t).2
  have b0 : (((cfgM m hO).win 1).index t (0 : Fin 2) * 256 ≤ (i 0 : Nat) ∧ (i 0 : Nat) < ((cfgM m hO).win 1).index t (0 : Fin 2) * 256 + 256)
      ↔ (t.val / 4 * 256 ≤ (i 0 : Nat) ∧ (i 0 : Nat) < t.val / 4 * 256 + 256) := by rw [e0]
  have b1 : (((cfgM m hO).win 1).index t (1 : Fin 2) * 12544 ≤ (i 1 : Nat) ∧ (i 1 : Nat) < ((cfgM m hO).win 1).index t (1 : Fin 2) * 12544 + 12544)
      ↔ (t.val % 4 * 12544 ≤ (i 1 : Nat) ∧ (i 1 : Nat) < t.val % 4 * 12544 + 12544) := by rw [e1]
  refine ⟨fun h => ⟨b0.1 (h 0), b1.1 (h 1)⟩, fun h a => ?_⟩
  match a with
  | ⟨0, _⟩ => exact b0.2 h.1
  | ⟨1, _⟩ => exact b1.2 h.2

/-- The blocks tile the output array: row `r`, column `s` lie in the block of batch `r / 256` and column run `s / 12544`. -/
theorem cover (i : S512x50176.Idx) :
    ∃ t : Fin (cfgM m hO).N, ((cfgM m hO).win 1).flush t = true ∧ i ∈ (((cfgM m hO).win 1).blk t).view.set := by
  have h0 : (i 0 : Nat) < 512 := (i 0).isLt
  have h1 : (i 1 : Nat) < 50176 := (i 1).isLt
  have hN : (cfgM m hO).N = 8 := N_0
  have ht : 4 * ((i 0 : Nat) / 256) + (i 1 : Nat) / 12544 < (cfgM m hO).N := by omega
  refine ⟨⟨_, ht⟩, flush0_1 _ _, ?_⟩
  rw [mem_blk]
  dsimp only
  omega

/-- THE OUTPUT ARRAY after the run is the slab. -/
theorem final_eq (h : (Table.step m).toNat < 1000) (c : Dev nD) :
    (dats m hO 0 c).arrAt 1 (cfgM m hO).N = slab (Table.step m) (m ((c : Thread nD τ).loc main_arg2)) :=
  (dats m hO 0 c).arrAt_eq_of_cover 1 _ (fun t _ => flushed_eq m hO h c t) (cover m hO)

end Cert.KernelIdeal.Block
-- ==== Proof.ResultKernelIdeal.lean ====
/- What `KernelIdeal` returns: the last host operation unfolds the output array's two merged axes, and the result is the
   image `Cert.Broadcast.image` of the time step and the embedding table. -/
module

public import proofs.«01_k».proof.Proof.BlockKernelIdeal

@[expose] public section

noncomputable section

namespace Cert.KernelIdeal.Result

open Idealize.ShloMosaic Idealize.ShloMosaic.TcCoe Idealize.SL.Sem
open Cert.KernelIdeal Cert.KernelIdeal.Gen Cert.Broadcast

variable {F : FTy → Type} [FloatOps F]
variable (m : (ℓ : Loc nD τ sig) → Buf (Elt F) ℓ) (ρ : Dev nD → PrngReg)

/-- The image of device `c`'s arguments. -/
abbrev value (c : Dev nD) : Buf (Elt F) ((c : Thread nD τ).loc main_v3) :=
  image (Table.step m) (m ((c : Thread nD τ).loc main_arg2))

/-- The result array, as the host operation after the launch leaves it, is the image. -/
theorem tail_eq (hO : Ok (F := F) m) (h : (Table.step m).toNat < 1000) (c : Dev nD) :
    Pipeline.afterTail pcfgs (fun _ => adm m hO) (dats m hO) 0 (V0 m) [hostOps1] c main_v3 = value m c := by
  unfold Pipeline.afterTail
  show StableHlo.after hostOps1 _ (Proc.devRef .tc main_v3) = _
  after_results
  refine Eq.trans ?_ (shapeCast_slab (Table.step m) (m ((c : Thread nD τ).loc main_arg2)) shapeCasts_S512x50176_S2x256x224x224)
  refine congrArg (fun x => shapeCast S2x256x224x224 x shapeCasts_S512x50176_S2x256x224x224) ?_
  exact (Pipeline.withArrays_arr spec0 winFacts0.arr_inj c (V0 m c) _ (1 : Fin 2)).trans (Block.final_eq m hO h c)

/-- THE RUN, READ: it ends, the result is the image, the arguments are unchanged. -/
theorem run (h : (Table.step m).toNat < 1000) :
    θ_run defs (onTc (τ := τ) (main (F := F))) ⟨m, fun _ => 0, ρ⟩ fun r => ∀ c : Dev nD,
      r.2.mem ((c : Thread nD τ).loc main_v3) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  have hO := Table.ok m h
  (θ_run defs _ _).mono (fun _ hr c => ⟨((hr.1 c).2 main_v3 (by exact (by decide : main_v3 ∈ Pipeline.restRefs sig spec0))).trans (tail_eq m hO h c), hr.2 c⟩)
    (θ_run_and (run_main m ρ hO) (unchanged m ρ hO))

end Cert.KernelIdeal.Result
-- ==== Proof.RunReferenceIdeal.lean ====
/- The run of `ReferenceIdeal`, a host program: its operations in two lists, the ones that compute where the row slice
   starts and the ones that take the slice and repeat it, and what each list leaves in the buffers that are read after it. -/
module

public import proofs.«01_k».proof.Proof.Gen.ReferenceIdeal
public import Idealize.ShloMosaic.Lib.StableHlo.Run
public import Idealize.ShloMosaic.Lib.Quiescent

@[expose] public section

noncomputable section

namespace Cert.ReferenceIdeal.HostRun

open Idealize.ShloMosaic Idealize.ShloMosaic.TcCoe Idealize.ShloMosaic.StableHlo Idealize.SL.Sem
open Cert.ReferenceIdeal Cert.ReferenceIdeal.Gen

variable {F : FTy → Type} [FloatOps F]

/-- A rank-zero array of 32-bit words, and one of truth values. -/
abbrev Word (F : FTy → Type) : Type := (⟨S_, .i32⟩ : BufTy).Contents (Elt F)
abbrev Truth (F : FTy → Type) : Type := (⟨S_, .i1⟩ : BufTy).Contents (Elt F)

/-- The slice's start on the row axis: the time step, or the time step plus the table's height where it is negative. -/
abbrev rowOps : List (HloOp τ sig (Elt F)) :=
  [ nullary main_c (constantI S_ 32 0#32),
    binary main_arg1 main_c main_v0 (cmpi .slt : Word F → Word F → Truth F),
    nullary main_c_0 (constantI S_ 32 1000#32),
    binary main_arg1 main_c_0 main_v1 (addi : Word F → Word F → Word F),
    ternary main_v0 main_v1 main_arg1 main_v2 (select : Truth F → Word F → Word F → Word F) ]

/-- Its start on the other axis, a computation on constants. -/
abbrev colOps : List (HloOp τ sig (Elt F)) :=
  [ nullary main_c_1 (constantI S_ 32 0#32),
    nullary main_c_2 (constantI S_ 32 0#32),
    binary main_c_1 main_c_2 main_v3 (cmpi .slt : Word F → Word F → Truth F),
    nullary main_c_3 (constantI S_ 32 0#32),
    nullary main_c_4 (constantI S_ 32 256#32),
    binary main_c_3 main_c_4 main_v4 (addi : Word F → Word F → Word F),
    nullary main_c_5 (constantI S_ 32 0#32),
    ternary main_v3 main_v4 main_c_5 main_v5 (select : Truth F → Word F → Word F → Word F) ]

/-- The slice of the table at those starts. -/
abbrev sliceOps : List (HloOp τ sig (Elt F)) :=
  [ unaryIndexed main_arg2 ![main_v2, main_v5] ⟨S_, .i32⟩ main_v6
      ((fun x i => Host.dynamicSlice S1x256 x (fun k => (i k (Shape.Idx.first h_S_)).toInt) sliceFits_S1000x256_S1x256) :
        (⟨S1000x256, .f32⟩ : BufTy).Contents (Elt F) → (Fin 2 → Word F) → (⟨S1x256, .f32⟩ : BufTy).Contents (Elt F)) ]

/-- The slice, one entry a channel, repeated. -/
abbrev spreadOps : List (HloOp τ sig (Elt F)) :=
  [ reshape main_v6 main_v7 (rfl : (.f32 : EltTy) = .f32) shapeCasts_S1x256_S256,
    reshape main_v7 main_v8 (rfl : (.f32 : EltTy) = .f32) shapeCasts_S256_S1x256x1x1,
    unary main_v8 main_v9 (broadcastInDim S2x256x224x224 ![0, 1, 2, 3] bcast_S1x256x1x1_S2x256x224x224_0_1_2_3 :
      (⟨S1x256x1x1, .f32⟩ : BufTy).Contents (Elt F) → (⟨S2x256x224x224, .f32⟩ : BufTy).Contents (Elt F)) ]

/-- @main's operations. -/
abbrev allOps : List (HloOp τ sig (Elt F)) := rowOps ++ (colOps ++ (sliceOps ++ spreadOps))

theorem main_seq (c : Dev nD) : main (F := F) c = seq allOps := rfl
theorem no_scoped_refs : (Finset.univ.filter fun b : Ref sig .tc => b.isScoped) = ∅ := by decide
theorem no_scoped_sems : (Finset.univ.filter fun sm : SemLoc sig => sm.isScoped .tc) = ∅ := by decide

/-- Every operation's buffers are the TensorCore's. -/
theorem allOps_sub : (allOps : List (HloOp τ sig (Elt F))).Forall fun op => op.bufs ⊆ tcRefs τ sig := by
  simp only [allOps, List.cons_append, List.nil_append, List.forall_cons, List.Forall, nullary_bufs_sub, unary_bufs_sub,
    binary_bufs_sub, ternary_bufs_sub, reshape_bufs_sub, unaryIndexed_bufs_sub, and_self]

theorem allOps_after (V : Valuation τ sig (Elt F)) :
    after allOps V = after spreadOps (after sliceOps (after colOps (after rowOps V))) := rfl

/-! ## What each list leaves -/

section Reads
variable (V : Valuation τ sig (Elt F))

theorem row_v2 : after rowOps V (Proc.devRef .tc main_v2)
    = select (cmpi .slt (V (Proc.devRef .tc main_arg1)) (constantI S_ 32 0#32))
        (addi (V (Proc.devRef .tc main_arg1)) (constantI S_ 32 1000#32)) (V (Proc.devRef .tc main_arg1)) := by
  after_results
theorem row_arg0 : after rowOps V (Proc.devRef .tc main_arg0) = V (Proc.devRef .tc main_arg0) := by after_results
theorem row_arg1 : after rowOps V (Proc.devRef .tc main_arg1) = V (Proc.devRef .tc main_arg1) := by after_results
theorem row_arg2 : after rowOps V (Proc.devRef .tc main_arg2) = V (Proc.devRef .tc main_arg2) := by after_results

theorem col_v5 : after colOps V (Proc.devRef .tc main_v5)
    = select (cmpi .slt (constantI S_ 32 0#32) (constantI S_ 32 0#32))
        (addi (constantI S_ 32 0#32) (constantI S_ 32 256#32)) (constantI S_ 32 0#32) := by
  after_results
theorem col_v2 : after colOps V (Proc.devRef .tc main_v2) = V (Proc.devRef .tc main_v2) := by after_results
theorem col_arg0 : after colOps V (Proc.devRef .tc main_arg0) = V (Proc.devRef .tc main_arg0) := by after_results
theorem col_arg1 : after colOps V (Proc.devRef .tc main_arg1) = V (Proc.devRef .tc main_arg1) := by after_results
theorem col_arg2 : after colOps V (Proc.devRef .tc main_arg2) = V (Proc.devRef .tc main_arg2) := by after_results

/-- The slice's start, axis by axis, read off the buffers that hold it. -/
def start (k : Fin 2) : Int :=
  ((fun k => match k with
    | ⟨0, _⟩ => V (Proc.devRef .tc main_v2)
    | ⟨1, _⟩ => V (Proc.devRef .tc main_v5) : Fin 2 → Word F) k (Shape.Idx.first h_S_)).toInt

theorem slice_v6 : after sliceOps V (Proc.devRef .tc main_v6)
    = Host.dynamicSlice S1x256 (V (Proc.devRef .tc main_arg2)) (start V) sliceFits_S1000x256_S1x256 := by
  simp only [after_cons, after_nil]
  rw [unaryIndexed_result]
  refine congrArg (fun s => Host.dynamicSlice S1x256 (V (Proc.devRef .tc main_arg2)) s sliceFits_S1000x256_S1x256) ?_
  funext k
  match k with
  | ⟨0, _⟩ => rfl
  | ⟨1, _⟩ => rfl
theorem slice_arg0 : after sliceOps V (Proc.devRef .tc main_arg0) = V (Proc.devRef .tc main_arg0) := by after_results
theorem slice_arg1 : after sliceOps V (Proc.devRef .tc main_arg1) = V (Proc.devRef .tc main_arg1) := by after_results
theorem slice_arg2 : after sliceOps V (Proc.devRef .tc main_arg2) = V (Proc.devRef .tc main_arg2) := by after_results

theorem spread_v9 : after spreadOps V (Proc.devRef .tc main_v9)
    = broadcastInDim S2x256x224x224 ![0, 1, 2, 3] bcast_S1x256x1x1_S2x256x224x224_0_1_2_3
        (shapeCast S1x256x1x1 (shapeCast S256 (V (Proc.devRef .tc main_v6)) shapeCasts_S1x256_S256) shapeCasts_S256_S1x256x1x1) := by
  after_results
  rfl
theorem spread_arg0 : after spreadOps V (Proc.devRef .tc main_arg0) = V (Proc.devRef .tc main_arg0) := by after_results
theorem spread_arg1 : after spreadOps V (Proc.devRef .tc main_arg1) = V (Proc.devRef .tc main_arg1) := by after_results
theorem spread_arg2 : after spreadOps V (Proc.devRef .tc main_arg2) = V (Proc.devRef .tc main_arg2) := by after_results

/-- No operation writes an argument. -/
theorem all_arg0 : after allOps V (Proc.devRef .tc main_arg0) = V (Proc.devRef .tc main_arg0) := by
  rw [allOps_after, spread_arg0, slice_arg0, col_arg0, row_arg0]
theorem all_arg1 : after allOps V (Proc.devRef .tc main_arg1) = V (Proc.devRef .tc main_arg1) := by
  rw [allOps_after, spread_arg1, slice_arg1, col_arg1, row_arg1]
theorem all_arg2 : after allOps V (Proc.devRef .tc main_arg2) = V (Proc.devRef .tc main_arg2) := by
  rw [allOps_after, spread_arg2, slice_arg2, col_arg2, row_arg2]

end Reads

variable (m : (ℓ : Loc nD τ sig) → Buf (Elt F) ℓ) (ρ : Dev nD → PrngReg)

/-- THE RUN: it ends, every buffer at what the operations leave in it. -/
theorem run : θ_run defs (onTc (τ := τ) (main (F := F))) ⟨m, fun _ => 0, ρ⟩ fun r =>
      ∀ (c : Dev nD) (b : Ref sig .tc),
        r.2.mem ((c : Thread nD τ).loc b) = after allOps (launchContents m c) (Proc.devRef .tc b) :=
  run_seq no_scoped_refs no_scoped_sems defs main (fun _ => allOps) main_seq (fun _ => allOps_sub) m ρ

/-- It ends at any time step, the arguments unchanged and every semaphore counter at zero: the program has no semaphore. -/
theorem frame : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0 :=
  (θ_run defs _ _).mono (fun r hr => ⟨fun c => ⟨(hr c main_arg0).trans (all_arg0 _), (hr c main_arg1).trans (all_arg1 _),
    (hr c main_arg2).trans (all_arg2 _)⟩, sem_eq_zero_of_no_sems (by decide) r.2⟩) (run m ρ)

end Cert.ReferenceIdeal.HostRun
-- ==== Proof.ResultReferenceIdeal.lean ====
/- What `ReferenceIdeal` returns where the time step is a row of the embedding table: the image `Cert.Broadcast.image` of
   the time step and the table. The index of the row slice is the time step itself (it is not negative, so the table's
   height is not added to it), and the slice fits (so its start is not moved). -/
module

public import proofs.«01_k».proof.Proof.Broadcast
public import proofs.«01_k».proof.Proof.RunReferenceIdeal
public import Idealize.ShloMosaic.Lib.DynamicIndex
public import Idealize.ShloMosaic.Lib.StableHlo.Predicate

@[expose] public section

noncomputable section

namespace Cert.ReferenceIdeal.Result

open Idealize.ShloMosaic Idealize.ShloMosaic.TcCoe Idealize.ShloMosaic.StableHlo Idealize.SL.Sem
open Cert.ReferenceIdeal Cert.ReferenceIdeal.Gen Cert.ReferenceIdeal.HostRun Cert.Broadcast

variable {F : FTy → Type} [FloatOps F]

/-- The word of a time step, an array of rank zero. -/
abbrev word (t : IVec S_ 32) : BitVec 32 := t (Shape.Idx.first h_S_)

/-- The row slice is the row of the table the time step names. -/
theorem slice_apply {α : Type} (w : BitVec 32) (e : S1000x256.Idx → α) (s : Fin 2 → Int) (h : w.toNat < 1000)
    (hs0 : s 0 = (w.toNat : Int)) (hs1 : s 1 = 0) (j : S1x256.Idx) (k : Fin 256) (hk : (j 1 : Nat) = k) :
    Host.dynamicSlice S1x256 e s sliceFits_S1000x256_S1x256 j = entry w e k := by
  have hoff : S1000x256.Slices ![w.toNat, 0] S1x256 := ⟨rfl, fun a => by
    match a with
    | ⟨0, _⟩ => show w.toNat + 1 ≤ 1000; omega
    | ⟨1, _⟩ => show 0 + 256 ≤ 256; omega⟩
  rw [Host.dynamicSlice_eq_extractStridedSlice S1x256 e s ![w.toNat, 0] _ hoff (fun a => by
    match a with
    | ⟨0, _⟩ => exact hs0
    | ⟨1, _⟩ => exact hs1)]
  refine congrArg e (funext fun a => Fin.ext ?_)
  have h0 : (j 0 : Nat) < 1 := (j 0).isLt
  match a with
  | ⟨0, _⟩ => show w.toNat + (j 0 : Nat) = (row w : Nat); rw [row_val h]; omega
  | ⟨1, _⟩ => show 0 + (j 1 : Nat) = (k : Nat); omega

/-- THE REFERENCE'S RESULT: the row slice, reshaped to one entry a channel and broadcast, is the image. -/
theorem image_eq {α : Type} (w : BitVec 32) (e : S1000x256.Idx → α) (s : Fin 2 → Int) (h : w.toNat < 1000)
    (hs0 : s 0 = (w.toNat : Int)) (hs1 : s 1 = 0) :
    broadcastInDim S2x256x224x224 ![0, 1, 2, 3] bcast_S1x256x1x1_S2x256x224x224_0_1_2_3
      (shapeCast S1x256x1x1 (shapeCast S256 (Host.dynamicSlice S1x256 e s sliceFits_S1000x256_S1x256)
        shapeCasts_S1x256_S256) shapeCasts_S256_S1x256x1x1) = image w e := by
  funext i
  have h1 : (i 1 : Nat) < 256 := (i 1).isLt
  rw [broadcastInDim_apply _ _ _ i (ValueIdx.ix4 (0 : Fin 1) (⟨_, h1⟩ : Fin 256) (0 : Fin 1) (0 : Fin 1)) (fun a => by
    match a with
    | ⟨0, _⟩ => rfl
    | ⟨1, _⟩ => rfl
    | ⟨2, _⟩ => rfl
    | ⟨3, _⟩ => rfl)]
  rw [shapeCast_apply _ shapeCasts_S256_S1x256x1x1 _ (ValueIdx.ix1 (⟨_, h1⟩ : Fin 256)) (by
    rw [Shape.rowMajor_val_one, Shape.rowMajor_val_four]
    show (i 1 : Nat) = ((0 * 256 + (i 1 : Nat)) * 1 + 0) * 1 + 0
    omega)]
  rw [shapeCast_apply _ shapeCasts_S1x256_S256 _ (ValueIdx.ix2 (0 : Fin 1) (⟨_, h1⟩ : Fin 256)) (by
    rw [Shape.rowMajor_val_two, Shape.rowMajor_val_one]
    show 0 * 256 + (i 1 : Nat) = (i 1 : Nat)
    omega)]
  exact slice_apply w e s h hs0 hs1 _ (i 1) rfl

/-! ## The buffers at the end -/

section Buffers
variable (V : Valuation τ sig (Elt F))

/-- The time step and the table, in a valuation of the buffers. -/
abbrev step : BitVec 32 := word (V (Proc.devRef .tc main_arg1))
abbrev table : S1000x256.Idx → Elt F .f32 := V (Proc.devRef .tc main_arg2)

/-- A time step below 1000 is where the row slice starts: read signed it is not negative. -/
theorem start_row (h : (step V).toNat < 1000) : start (after colOps (after rowOps V)) 0 = ((step V).toNat : Int) := by
  have hi : (step V).toInt = ((step V).toNat : Int) := Predicate.toInt_eq_toNat_of_lt (by omega)
  have e : after colOps (after rowOps V) (Proc.devRef .tc main_v2)
      = select (cmpi .slt (V (Proc.devRef .tc main_arg1)) (constantI S_ 32 0#32))
        (addi (V (Proc.devRef .tc main_arg1)) (constantI S_ 32 1000#32)) (V (Proc.devRef .tc main_arg1)) :=
    (col_v2 _).trans (row_v2 V)
  have e' := (congrFun e (Shape.Idx.first h_S_)).trans (select_slt_zero_of_nonneg (V (Proc.devRef .tc main_arg1)) _ _
    (Shape.Idx.first h_S_) (by show 0 ≤ (step V).toInt; omega))
  exact (congrArg BitVec.toInt e').trans hi

/-- On the other axis it starts at 0. -/
theorem start_col : start (after colOps (after rowOps V)) 1 = 0 :=
  congrArg BitVec.toInt (congrFun (col_v5 (after rowOps V)) (Shape.Idx.first h_S_))

/-- The result buffer ends at the image. -/
theorem all_v9 (h : (step V).toNat < 1000) : after allOps V (Proc.devRef .tc main_v9) = image (step V) (table V) := by
  rw [allOps_after, spread_v9, slice_v6, col_arg2, row_arg2]
  exact image_eq (step V) (table V) _ h (start_row V h) (start_col V)

end Buffers

variable (m : (ℓ : Loc nD τ sig) → Buf (Elt F) ℓ) (ρ : Dev nD → PrngReg)

/-- THE RUN, READ, from a memory whose time steps are rows of the table: it ends, the result is the image, the arguments
    are unchanged. -/
theorem run (h : ∀ c : Dev nD, (word (m ((c : Thread nD τ).loc main_arg1))).toNat < 1000) :
    θ_run defs (onTc (τ := τ) (main (F := F))) ⟨m, fun _ => 0, ρ⟩ fun r => ∀ c : Dev nD,
      r.2.mem ((c : Thread nD τ).loc main_v9)
        = image (word (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ hr c => ⟨(hr c main_v9).trans (all_v9 (launchContents m c) (h c)), (hr c main_arg0).trans (all_arg0 _),
    (hr c main_arg1).trans (all_arg1 _), (hr c main_arg2).trans (all_arg2 _)⟩) (HostRun.run m ρ)

end Cert.ReferenceIdeal.Result
-- ==== Proof.lean ====
module

public import proofs.«01_k».proof.Defs
public import proofs.«01_k».proof.Proof.TimeStep
public import proofs.«01_k».proof.Proof.TableKernel
public import proofs.«01_k».proof.Proof.ResultKernelIdeal
public import proofs.«01_k».proof.Proof.ResultReferenceIdeal

@[expose] public section

noncomputable section

namespace Cert.Proof

open Idealize.ShloMosaic Idealize.ShloMosaic.TcCoe Idealize.SL.Sem

/-- The precondition read at the kernel's memory: its time step is below 1000. -/
theorem step_lt_kernel (m : (ℓ : Loc Cert.Kernel.nD Cert.Kernel.τ Cert.Kernel.sig) → Buf (Elt Bits) ℓ) (h : Cert.Pre_Kernel m) :
    (Cert.Kernel.Table.step m).toNat < 1000 :=
  Cert.TimeStep.lt_of_pre _ _ _ (h 0) _

/-- The same at the idealization's. -/
theorem step_lt_ideal (m : (ℓ : Loc Cert.KernelIdeal.nD Cert.KernelIdeal.τ Cert.KernelIdeal.sig) → Buf (Elt Ideal) ℓ)
    (h : Cert.Pre_KernelIdeal m) : (Cert.KernelIdeal.Table.step m).toNat < 1000 :=
  Cert.TimeStep.lt_of_pre _ _ _ (h 0) _

/-- The kernel ends, its arguments unchanged. -/
theorem frame_kernel : Cert.quiescent_Kernel := fun m ρ h =>
  Cert.Kernel.Gen.frame m ρ (Cert.Kernel.Table.ok m (step_lt_kernel m h))

/-- Its idealization does. -/
theorem frame_ideal : Cert.quiescent_KernelIdeal := fun m ρ h =>
  Cert.KernelIdeal.Gen.frame m ρ (Cert.KernelIdeal.Table.ok m (step_lt_ideal m h))

/-- The reference does. -/
theorem frame_reference : Cert.quiescent_ReferenceIdeal := fun m ρ _ => Cert.ReferenceIdeal.HostRun.frame m ρ

/-- In particular where the time step is a row of the table. -/
theorem frame_reference_pre : Cert.quiescent_ReferenceIdeal_pre_t_in_table := fun m ρ _ => Cert.ReferenceIdeal.HostRun.frame m ρ

/-- THE VALUE: the idealized kernel and the reference return the same image of the same arguments. -/
theorem value : Cert.algebraic_KernelIdeal_ReferenceIdeal := fun m ρ m' ρ' hpre hargs => by
  have h := step_lt_ideal m hpre
  have hw : ∀ c : Dev Cert.KernelIdeal.nD,
      Cert.ReferenceIdeal.Result.word (m' ((c : Thread Cert.ReferenceIdeal.nD Cert.ReferenceIdeal.τ).loc Cert.ReferenceIdeal.main_arg1))
        = Cert.KernelIdeal.Table.step m := fun c => by
    obtain rfl : c = 0 := Subsingleton.elim _ _
    exact (congrFun (hargs 0).2.1 _).trans (Cert.KernelIdeal.Table.arg1_apply m _)
  refine ⟨Cert.KernelIdeal.Result.value m, Cert.KernelIdeal.Result.run m ρ h,
    (θ_run _ _ _).mono (fun r hr c => ⟨(hr c).1.trans ?_, (hr c).2⟩)
      (Cert.ReferenceIdeal.Result.run m' ρ' fun c => (congrArg BitVec.toNat (hw c)).trans_lt h)⟩
  exact congrArg₂ Cert.Broadcast.image (hw c) (hargs c).2.2

theorem claim : Cert.Claim :=
  ⟨Cert.Kernel.Gen.facts, Cert.KernelIdeal.Gen.facts, Cert.ReferenceIdeal.Gen.facts, Cert.Pre_t_in_table.Gen.facts,
    frame_kernel, frame_ideal, frame_reference, frame_reference_pre, trivial, value⟩

end Cert.Proof

end
